-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "c" .f32 0x3E38AA3B#32 (((1 / 8) * (Real.log 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x2048x1024 : Shape := ⟨3, ![4, 2048, 1024]⟩
abbrev S4 : Shape := ⟨1, ![4]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg3 : IVec S4 32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_c_6 : IVec S_ 32 := constantI S_ 32 1#32
  let main_v19 : IVec S4 32 := broadcastInDim S4 ![] bcast_S_S4 main_c_6
  let main_v20 : IVec S4 1 := cmpi .sge main_arg3 main_v19
  let main_c_7 : IVec S_ 1 := constantI S_ 1 1#1
  let main_v21 : IVec S_ 1 := (fun x v => Host.reduce IntOp.andi x v reducesTo_S4_S_d0 h_S_) main_v20 main_c_7
  let main_v22 : IVec S_ 1 := andi main_v18 main_v21
  main_v22

def fn {F : FTy → Type} [FloatOps F] (main_arg0 : FVec F S4x2048x1024 .f32) (main_arg1 : FVec F S4x2048x1024 .f32) (main_arg2 : FVec F S4x2048x1024 .f32) (main_arg3 : IVec S4 32) (main_arg4 : FVec F S1024x1024 .f32) (main_arg5 : FVec F S1024x1024 .f32) (main_arg6 : FVec F S1024x1024 .f32) (main_arg7 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg3 main_v13 main_v16
-- ==== Kernel.lean ====
abbrev S4x2048x1024 : Shape := ⟨3, ![4, 2048, 1024]⟩
abbrev S4 : Shape := ⟨1, ![4]⟩
abbrev S1024x1024 : Shape := ⟨2, ![1024, 1024]⟩
abbrev S8192x1024 : Shape := ⟨2, ![8192, 1024]⟩
abbrev S4x1024x2048 : Shape := ⟨3, ![4, 1024, 2048]⟩
abbrev S512x1024 : Shape := ⟨2, ![512, 1024]⟩
abbrev S1x1024x512 : Shape := ⟨3, ![1, 1024, 512]⟩
abbrev S1024x512 : Shape := ⟨2, ![1024, 512]⟩
abbrev S1x512x512 : Shape := ⟨3, ![1, 512, 512]⟩
abbrev S1x2048x512 : Shape := ⟨3, ![1, 2048, 512]⟩
abbrev S1x512x2048 : Shape := ⟨3, ![1, 512, 2048]⟩
abbrev S2x2048x512 : Shape := ⟨3, ![2, 2048, 512]⟩
abbrev S1x2048 : Shape := ⟨2, ![1, 2048]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S1 : Shape := ⟨1, ![1]⟩
abbrev S2048x512 : Shape := ⟨2, ![2048, 512]⟩
abbrev S512 : Shape := ⟨1, ![512]⟩
abbrev S1x512 : Shape := ⟨2, ![1, 512]⟩
abbrev S1x64x2048 : Shape := ⟨3, ![1, 64, 2048]⟩
abbrev S64x2048 : Shape := ⟨2, ![64, 2048]⟩
abbrev S16x2048 : Shape := ⟨2, ![16, 2048]⟩
abbrev S80x2048 : Shape := ⟨2, ![80, 2048]⟩
abbrev S80x512 : Shape := ⟨2, ![80, 512]⟩
abbrev S1x256x512 : Shape := ⟨3, ![1, 256, 512]⟩
abbrev S256x512 : Shape := ⟨2, ![256, 512]⟩
abbrev S80x256 : Shape := ⟨2, ![80, 256]⟩
abbrev S64x512 : Shape := ⟨2, ![64, 512]⟩
abbrev S512x512 : Shape := ⟨2, ![512, 512]⟩

abbrev nBuf : Space → Nat
  | .hbm => 20
  | .vmem => 29
  | .smem => 1
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4, .i32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S4x1024x2048, .bf16⟩
  | .hbm, ⟨14, _⟩ => ⟨S4x2048x1024, .bf16⟩
  | .hbm, ⟨15, _⟩ => ⟨S4x2048x1024, .bf16⟩
  | .hbm, ⟨16, _⟩ => ⟨S4x2048x1024, .bf16⟩
  | .hbm, ⟨17, _⟩ => ⟨S8192x1024, .bf16⟩
  | .hbm, ⟨18, _⟩ => ⟨S8192x1024, .f32⟩
  | .hbm, ⟨19, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x2048x512, .bf16⟩
  | .local _ .vmem, ⟨18, _⟩ => ⟨S1x2048x512, .bf16⟩
  | .local _ .vmem, ⟨19, _⟩ => ⟨S1x512x2048, .bf16⟩
  | .local _ .vmem, ⟨20, _⟩ => ⟨S1x512x2048, .bf16⟩
  | .local _ .vmem, ⟨21, _⟩ => ⟨S1x512x512, .bf16⟩
  | .local _ .vmem, ⟨22, _⟩ => ⟨S1x512x512, .bf16⟩
  | .local _ .vmem, ⟨23, _⟩ => ⟨S2x2048x512, .f32⟩
  | .local _ .vmem, ⟨24, _⟩ => ⟨S512x1024, .bf16⟩
  | .local _ .vmem, ⟨25, _⟩ => ⟨S512x1024, .bf16⟩
  | .local _ .vmem, ⟨26, _⟩ => ⟨S1024x1024, .f32⟩
  | .local _ .vmem, ⟨27, _⟩ => ⟨S512x1024, .f32⟩
  | .local _ .vmem, ⟨28, _⟩ => ⟨S512x1024, .f32⟩
  | .local _ .smem, ⟨0, _⟩ => ⟨S4, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![8, 4], ![false, false]⟩

def k1_off1 (i : grid1.Coords) (c0_i32_15 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c16_i32 : BitVec 32 := 16#32
  let v32 : BitVec 32 := Scalar.muli v16 c16_i32
  let c8_i32 : BitVec 32 := 8#32
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v33 : BitVec 32 := Scalar.muli c8_i32 v26
  let v34 : BitVec 32 := Scalar.addi v32 v33
  let v35 : BitVec 32 := Scalar.addi v34 c0_i32_15
  let c4_i32 : BitVec 32 := 4#32
  let c0_i32_16 : BitVec 32 := 0#32
  let v36 : BitVec 1 := Scalar.cmpi .eq c4_i32 c0_i32_16
  let c1_i32_17 : BitVec 32 := 1#32
  let v37 : BitVec 32 := Scalar.select v36 c1_i32_17 c4_i32
  let v38 : BitVec 32 := Scalar.remsi v35 v37
  let c0_i32_19 : BitVec 32 := 0#32
  let v40 : BitVec 1 := Scalar.cmpi .slt v38 c0_i32_19
  let c0_i32_20 : BitVec 32 := 0#32
  let v41 : BitVec 1 := Scalar.cmpi .slt v37 c0_i32_20
  let v42 : BitVec 1 := Scalar.xori v40 v41
  let c0_i32_18 : BitVec 32 := 0#32
  let v39 : BitVec 1 := Scalar.cmpi .ne v38 c0_i32_18
  let v43 : BitVec 1 := Scalar.andi v42 v39
  let v44 : BitVec 32 := Scalar.addi v38 v37
  let v45 : BitVec 32 := Scalar.select v43 v44 v38
  let v46 : Index := Scalar.indexCast v45
  ![v46.toNat]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_3 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_4 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage1_0 : Fin 1 → Memref sig .tc .smem S4 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== KernelIdeal.lean ====
variable {F : FTy → Type} [FloatOps F] [Named F]
def κ : String → Option EReal := fun
  | "c" => some (((1 / 8) * (Real.log 2)⁻¹ : ℝ) : EReal)
  | _ => none
-- ==== ReferenceIdeal.lean ====
abbrev S4x2048x1024 : Shape := ⟨3, ![4, 2048, 1024]⟩
abbrev S4 : Shape := ⟨1, ![4]⟩
abbrev S1024x1024 : Shape := ⟨2, ![1024, 1024]⟩
abbrev S4x2048x16x64 : Shape := ⟨4, ![4, 2048, 16, 64]⟩
abbrev S4x16x2048x64 : Shape := ⟨4, ![4, 16, 2048, 64]⟩
abbrev S64x2048x64 : Shape := ⟨3, ![64, 2048, 64]⟩
abbrev S64x2048x2048 : Shape := ⟨3, ![64, 2048, 2048]⟩
abbrev S_ : Shape := ⟨0, ![]⟩
abbrev S1x4 : Shape := ⟨2, ![1, 4]⟩
abbrev S16x4 : Shape := ⟨2, ![16, 4]⟩
abbrev S64 : Shape := ⟨1, ![64]⟩
abbrev S2048 : Shape := ⟨1, ![2048]⟩
abbrev S1x1x2048 : Shape := ⟨3, ![1, 1, 2048]⟩
abbrev S64x1x1 : Shape := ⟨3, ![64, 1, 1]⟩
abbrev S64x1x2048 : Shape := ⟨3, ![64, 1, 2048]⟩
abbrev S64x2048 : Shape := ⟨2, ![64, 2048]⟩
abbrev S64x2048x1 : Shape := ⟨3, ![64, 2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4, .i32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4x2048x1024, .f32⟩
  | .hbm, ⟨9, _⟩ => ⟨S4x2048x16x64, .f32⟩
  | .hbm, ⟨10, _⟩ => ⟨S4x16x2048x64, .f32⟩
  | .hbm, ⟨11, _⟩ => ⟨S64x2048x64, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S64x2048x64, .f32⟩
  | .hbm, ⟨16, _⟩ => ⟨S4x2048x1024, .f32⟩
  | .hbm, ⟨17, _⟩ => ⟨S4x2048x16x64, .f32⟩
  | .hbm, ⟨18, _⟩ => ⟨S4x16x2048x64, .f32⟩
  | .hbm, ⟨19, _⟩ => ⟨S64x2048x64, .f32⟩
  | .hbm, ⟨20, _⟩ => ⟨S64x2048x2048, .f32⟩
  | .hbm, ⟨21, _⟩ => ⟨S_, .f32⟩
  | .hbm, ⟨22, _⟩ => ⟨S_, .f32⟩
  | .hbm, ⟨23, _⟩ => ⟨S64x2048x2048, .f32⟩
  | .hbm, ⟨24, _⟩ => ⟨S64x2048x2048, .f32⟩
  | .hbm, ⟨25, _⟩ => ⟨S1x4, .i32⟩
  | .hbm, ⟨26, _⟩ => ⟨S16x4, .i32⟩
  | .hbm, ⟨27, _⟩ => ⟨S64, .i32⟩
  | .hbm, ⟨28, _⟩ => ⟨S2048, .i32⟩
  | .hbm, ⟨29, _⟩ => ⟨S1x1x2048, .i32⟩
  | .hbm, ⟨30, _⟩ => ⟨S64x1x1, .i32⟩
  | .hbm, ⟨31, _⟩ => ⟨S64x1x2048, .i32⟩
  | .hbm, ⟨32, _⟩ => ⟨S64x1x2048, .i32⟩
  | .hbm, ⟨33, _⟩ => ⟨S64x1x2048, .i1⟩
  | .hbm, ⟨34, _⟩ => ⟨S_, .f32⟩
  | .hbm, ⟨35, _⟩ => ⟨S64x2048x2048, .i1⟩
  | .hbm, ⟨36, _⟩ => ⟨S64x2048x2048, .f32⟩
  | .hbm, ⟨37, _⟩ => ⟨S64x2048x2048, .f32⟩
  | .hbm, ⟨38, _⟩ => ⟨S_, .f32⟩
  | .hbm, ⟨39, _⟩ => ⟨S64x2048, .f32⟩
  | .hbm, ⟨40, _⟩ => ⟨S_, .f32⟩
  | .hbm, ⟨41, _⟩ => ⟨S64x2048, .f32⟩
  | .hbm, ⟨42, _⟩ => ⟨S64x2048, .f32⟩
  | .hbm, ⟨43, _⟩ => ⟨S64x2048x1, .f32⟩
  | .hbm, ⟨44, _⟩ => ⟨S64x2048x2048, .f32⟩
  | .hbm, ⟨45, _⟩ => ⟨S64x2048x2048, .f32⟩
  | .hbm, ⟨46, _⟩ => ⟨S64x2048x2048, .f32⟩
  | .hbm, ⟨47, _⟩ => ⟨S_, .f32⟩
  | .hbm, ⟨48, _⟩ => ⟨S64x2048, .f32⟩
  | .hbm, ⟨49, _⟩ => ⟨S64x2048x1, .f32⟩
  | .hbm, ⟨50, _⟩ => ⟨S64x2048x2048, .f32⟩
  | .hbm, ⟨51, _⟩ => ⟨S64x2048x2048, .f32⟩
  | .hbm, ⟨52, _⟩ => ⟨S64x2048x64, .f32⟩
  | .hbm, ⟨53, _⟩ => ⟨S4x16x2048x64, .f32⟩
  | .hbm, ⟨54, _⟩ => ⟨S4x2048x16x64, .f32⟩
  | .hbm, ⟨55, _⟩ => ⟨S4x2048x1024, .f32⟩
  | .hbm, ⟨56, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.Frames.lean ====
/- The claims of this certificate that state no value: every program runs, faults nowhere, leaves its arguments as they
   were and every semaphore at zero (the generated frames for the two readings of the kernel, the generated run for the
   reference, which has no semaphores); and the kernel's one named constant. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof.Attention

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

/-- The reference's run, the value of its result dropped; it has no semaphore to count. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two ideal programs' frames hold with no precondition, so under one. -/
theorem frame_ideal_pre [Cert.Pre_in_range.Facts] : Cert.quiescent_KernelIdeal_pre_in_range := fun m ρ _ => Cert.KernelIdeal.Gen.frame m ρ

theorem frame_reference_pre [Cert.Pre_in_range.Facts] : Cert.quiescent_ReferenceIdeal_pre_in_range := fun m ρ _ => frame_reference m ρ trivial

/-- The factor in the exponent's base-two form, `log₂ e / 8`, is named by the real number its pattern stands for. -/
theorem preserves : Cert.preserves_Kernel_KernelIdeal :=
  IdealRules.named_const.statement Cert.KernelIdeal.κ "c" .f32 0x3E38AA3B#32 (((1 / 8) * (Real.log 2)⁻¹ : ℝ) : EReal) rfl

end Cert.Proof.Attention

end
-- ==== Proof.Consts.lean ====
/- The bit patterns of the two programs' constants, as extended reals. -/
module

public import Idealize.ShloMosaic.Lib.Pointwise

@[expose] public section

noncomputable section

namespace Cert.Proof.Attention

open Idealize.ShloMosaic

theorem bits_negInf : Ideal.ofBits .f32 0xFF800000#32 = ⊥ := by
  simp [Ideal.ofBits, Ideal.ieee]

theorem bits_posInf : Ideal.ofBits .f32 0x7F800000#32 = ⊤ := by
  simp [Ideal.ofBits, Ideal.ieee]

theorem bits_64 : Ideal.ofBits .f32 0x42800000#32 = ((64 : ℝ) : EReal) := by
  simp [Ideal.ofBits, Ideal.ieee, -EReal.coe_mul]
  norm_num

end Cert.Proof.Attention

end
-- ==== Proof.Precondition.lean ====
/- The precondition of the value claim read element by element: the factors of the scores are real, and every valid length is
   at least one. The printed predicate's side conditions are proved here. -/
module

public import proofs.«01_k».proof.Pre_in_range
public import proofs.«01_k».proof.Proof.Consts
public import Idealize.ShloMosaic.Lib.ReduceAll
public import Idealize.ShloMosaic.Lib.WordCmp
public import Idealize.ShloMosaic.Lib.Decide
public import Idealize.ShloMosaic.Lib.Pointwise

@[expose] public section

noncomputable section

namespace Cert.Proof.Attention

open Idealize.ShloMosaic

instance range_facts : Cert.Pre_in_range.Facts where
  bcast_S_S4x2048x1024 := by decide
  reducesTo_S4x2048x1024_S_d0_1_2 := by decide
  h_S_ := by decide
  bcast_S_S1024x1024 := by decide
  reducesTo_S1024x1024_S_d0_1 := by decide
  bcast_S_S4 := by decide
  reducesTo_S4_S_d0 := by decide

instance one_index : Subsingleton (Cert.Pre_in_range.S_).Idx := ⟨fun _ _ => funext fun a => a.elim0⟩

theorem and_one {a b : BitVec 1} (h : IntOp.andi a b = 1#1) : a = 1#1 ∧ b = 1#1 := by
  revert a b; decide

/-- An extended real of absolute value below plus infinity is real. -/
theorem real_of_abs (x : EReal) (h : FloatOps.cmpf (F := Ideal) (φ := .f32) .olt (FloatOps.absf (F := Ideal) (φ := .f32) x) (Ideal.ofBits .f32 0x7F800000#32) = 1#1) :
    ∃ r : ℝ, x = r := by
  rw [bits_posInf] at h
  induction x with
  | bot => exact absurd h (by simp [FloatOps.cmpf, FloatOps.absf, Ideal.cmp])
  | top => exact absurd h (by simp [FloatOps.cmpf, FloatOps.absf, Ideal.cmp])
  | coe r => exact ⟨r, rfl⟩

theorem in_range_reads (query key value : FVec Ideal Cert.Pre_in_range.S4x2048x1024 .f32) (len : IVec Cert.Pre_in_range.S4 32)
    (wq wk wv wo : FVec Ideal Cert.Pre_in_range.S1024x1024 .f32)
    (h : Cert.Pre_in_range.fn (F := Ideal) query key value len wq wk wv wo = fun _ => 1#1) :
    (∀ i, ∃ r : ℝ, query i = r) ∧ (∀ i, ∃ r : ℝ, key i = r) ∧ (∀ i, ∃ r : ℝ, wq i = r) ∧ (∀ i, ∃ r : ℝ, wk i = r)
      ∧ ∀ i, 1 ≤ (len i).toInt := by
  have h0 := congrFun h ix0
  obtain ⟨h1, hl⟩ := and_one h0
  obtain ⟨h2, hk⟩ := and_one h1
  obtain ⟨h3, hq⟩ := and_one h2
  obtain ⟨h4, h5⟩ := and_one h3
  exact ⟨fun i => real_of_abs _ (Host.reduce_andi_all _ _ _ _ _ h4 i), fun i => real_of_abs _ (Host.reduce_andi_all _ _ _ _ _ h5 i),
    fun i => real_of_abs _ (Host.reduce_andi_all _ _ _ _ _ hq i), fun i => real_of_abs _ (Host.reduce_andi_all _ _ _ _ _ hk i),
    fun i => IntOp.cmpi_sge.1 (Host.reduce_andi_all _ _ _ _ _ hl i)⟩

end Cert.Proof.Attention

end
-- ==== Proof.Softmax.lean ====
/- Softmax of masked scores, two ways over the extended reals. `weigh` is the kernel's: two to the scores less their
   maximum over EVERY key, times a mask of zeros and ones, the sum of the masked values times the reciprocal of the sum of
   the mask. `average` is the reference's: minus infinity for a masked score, the exponential of the scores less their
   maximum, each weight divided before it meets its value. They agree for real scores and any values, infinite ones
   included, as soon as one key is kept (`weigh_eq_average`): the two maxima differ by a factor common to the weights and
   their sum, and a non-negative real factor distributes over sums of extended reals. -/
module

public import Idealize.ShloMosaic.PureOps.Ideal.Laws

@[expose] public section

noncomputable section

namespace Cert.Proof.Attention

open Idealize.ShloMosaic

variable {K : ℕ}

def weigh (s w v : Fin K → EReal) : EReal :=
  (∑ k, v k * w k * Ideal.exp2 (s k - Finset.univ.fold max ⊥ s)) * Ideal.div 1 (∑ k, w k * Ideal.exp2 (s k - Finset.univ.fold max ⊥ s))

def average (s v : Fin K → EReal) : EReal :=
  ∑ k, Ideal.div (Ideal.exp (s k - Finset.univ.fold max ⊥ s)) (∑ k, Ideal.exp (s k - Finset.univ.fold max ⊥ s)) * v k

/-- The largest of finitely many extended reals below plus infinity, one of them above minus infinity, is real. -/
theorem exists_real_max (s : Fin K → EReal) (htop : ∀ k, s k ≠ ⊤) (hbot : ∃ k, s k ≠ ⊥) :
    ∃ m : ℝ, Finset.univ.fold max ⊥ s = (m : EReal) := by
  have h1 : Finset.univ.fold max ⊥ s ≠ ⊤ := by
    refine ne_of_lt ((Finset.fold_max_lt _).mpr ⟨bot_lt_top, fun k _ => lt_top_iff_ne_top.mpr (htop k)⟩)
  have h2 : Finset.univ.fold max ⊥ s ≠ ⊥ := by
    obtain ⟨k, hk⟩ := hbot
    intro h
    apply hk
    have : s k ≤ Finset.univ.fold max ⊥ s := (Finset.le_fold_max _).mpr (Or.inr ⟨k, Finset.mem_univ k, le_rfl⟩)
    rw [h] at this
    exact le_bot_iff.mp this
  exact ⟨_, (EReal.coe_toReal h1 h2).symm⟩

/-- A non-negative real factor distributes over a sum of extended reals. -/
theorem sum_mul_coe (f : Fin K → EReal) (c : ℝ) (hc : 0 ≤ c) : (∑ k, f k) * (c : EReal) = ∑ k, f k * (c : EReal) := by
  induction (Finset.univ : Finset (Fin K)) using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

theorem coe_sum (f : Fin K → ℝ) : ((∑ k, f k : ℝ) : EReal) = ∑ k, (f k : EReal) := by
  induction (Finset.univ : Finset (Fin K)) using Finset.induction_on with
  | empty => simp
  | insert a t ha ih => rw [Finset.sum_insert ha, Finset.sum_insert ha, EReal.coe_add, ih]

/-- The kernel's weights are the reference's up to one positive factor. -/
theorem exp2_eq (s m M : ℝ) :
    Real.rpow 2 (s * (1 / 8 * (Real.log 2)⁻¹) - m) = Real.exp (M - m * Real.log 2) * Real.exp (s / 8 - M) := by
  have h2 : Real.log 2 ≠ 0 := (Real.log_pos (by norm_num)).ne'
  show (2 : ℝ) ^ (s * (1 / 8 * (Real.log 2)⁻¹) - m) = _
  rw [Real.rpow_def_of_pos (by norm_num), ← Real.exp_add]
  congr 1
  field_simp
  ring

theorem weigh_eq_average (s : Fin K → ℝ) (out : Fin K → Prop) [DecidablePred out] (hk : ∃ k, ¬ out k) (v : Fin K → EReal) :
    weigh (fun k => ((s k * (1 / 8 * (Real.log 2)⁻¹) : ℝ) : EReal)) (fun k => if out k then 0 else 1) v
      = average (fun k => if out k then ⊥ else ((s k / 8 : ℝ) : EReal)) v := by
  obtain ⟨k₀, hk₀⟩ := hk
  obtain ⟨m, hm⟩ := exists_real_max (fun k => ((s k * (1 / 8 * (Real.log 2)⁻¹) : ℝ) : EReal)) (fun k => EReal.coe_ne_top _) ⟨k₀, EReal.coe_ne_bot _⟩
  obtain ⟨M, hM⟩ := exists_real_max (fun k => if out k then ⊥ else ((s k / 8 : ℝ) : EReal))
    (fun k => by split <;> simp) ⟨k₀, by simp [hk₀]⟩
  unfold weigh average
  rw [hm, hM]
  -- the mask, the kernel's weights, the reference's
  let w : Fin K → ℝ := fun k => if out k then 0 else 1
  let b : Fin K → ℝ := fun k => Real.exp (s k / 8 - M)
  let ρ : ℝ := Real.exp (M - m * Real.log 2)
  have hw : ∀ k, (if out k then (0 : EReal) else 1) = (w k : EReal) := fun k => by
    show _ = ((if out k then (0 : ℝ) else 1 : ℝ) : EReal)
    split <;> simp
  have ha : ∀ k, Ideal.exp2 (((s k * (1 / 8 * (Real.log 2)⁻¹) : ℝ) : EReal) - (m : EReal)) = ((ρ * b k : ℝ) : EReal) := fun k => by
    rw [← EReal.coe_sub, Ideal.exp2_coe, exp2_eq (s k) m M]
  have hb : ∀ k, Ideal.exp ((if out k then ⊥ else ((s k / 8 : ℝ) : EReal)) - (M : EReal)) = ((w k * b k : ℝ) : EReal) := fun k => by
    show _ = (((if out k then (0 : ℝ) else 1) * Real.exp (s k / 8 - M) : ℝ) : EReal)
    split
    · simp
    · rw [← EReal.coe_sub, Ideal.exp_coe, one_mul]
  simp only [hw, ha, hb]
  have hL : 0 < ∑ k, w k * b k := by
    refine Finset.sum_pos' (fun k _ => ?_) ⟨k₀, Finset.mem_univ _, ?_⟩
    · show 0 ≤ (if out k then (0 : ℝ) else 1) * Real.exp (s k / 8 - M)
      split <;> positivity
    · show 0 < (if out k₀ then (0 : ℝ) else 1) * Real.exp (s k₀ / 8 - M)
      rw [if_neg hk₀]; positivity
  have hρ : 0 < ρ := Real.exp_pos _
  have hl : ∑ k, (w k : EReal) * ((ρ * b k : ℝ) : EReal) = ((ρ * ∑ k, w k * b k : ℝ) : EReal) := by
    rw [Finset.mul_sum, coe_sum]
    refine Finset.sum_congr rfl fun k _ => ?_
    rw [← EReal.coe_mul]; congr 1; ring
  rw [hl, ← coe_sum, Ideal.div_coe (mul_pos hρ hL).ne', one_mul, sum_mul_coe _ _ (by positivity)]
  refine Finset.sum_congr rfl fun k _ => ?_
  rw [Ideal.div_coe hL.ne', mul_assoc, mul_assoc, ← EReal.coe_mul, ← EReal.coe_mul, ← EReal.coe_mul, mul_comm (v k)]
  congr 2
  field_simp

end Cert.Proof.Attention

end
-- ==== Proof.Reference.lean ====
/- The reference's result over the extended reals, at one element: a sum over the heads' columns of softmax averages of the
   projected values. -/
module

public import proofs.«01_k».proof.Proof.Gen.ReferenceIdeal.Run
public import proofs.«01_k».proof.Proof.Consts
public import proofs.«01_k».proof.Proof.Softmax
public import Idealize.ShloMosaic.Lib.Pointwise
public import Idealize.ShloMosaic.Lib.WordCmp
public import Idealize.ShloMosaic.Lib.Tactic.CleanTypes

@[expose] public section

set_option maxRecDepth 16384

noncomputable section

namespace Cert.Proof.Attention.Reference

open Idealize.ShloMosaic Idealize.ShloMosaic.TcCoe Idealize.SL.Sem
open Cert.ReferenceIdeal Cert.ReferenceIdeal.Gen

/-- An input times a weight matrix, its columns split into the heads. -/
def split (x : FVec Ideal S4x2048x1024 .f32) (w : FVec Ideal S1024x1024 .f32) : FVec Ideal S64x2048x64 .f32 :=
  shapeCast _ (transpose S4x16x2048x64 [0, 2, 1, 3] (shapeCast _ (Host.dotGeneral dot_S4x2048x1024_S1024x1024_S4x2048x1024_2_0_01_1_n_n none x w)
    shapeCasts_S4x2048x1024_S4x2048x16x64) transposes_S4x2048x16x64_S4x16x2048x64_0_2_1_3) shapeCasts_S4x16x2048x64_S64x2048x64

/-- Which keys a head leaves out. -/
def outside (n : IVec S4 32) : IVec S64x2048x2048 1 :=
  broadcastInDim S64x2048x2048 ![0, 1, 2] bcast_S64x1x2048_S64x2048x2048_0_1_2
    (cmpi .sge (broadcastInDim S64x1x2048 ![0, 1, 2] bcast_S1x1x2048_S64x1x2048_0_1_2 (broadcastInDim S1x1x2048 ![2] bcast_S2048_S1x1x2048_2 (iotaInDim S2048 32 0)))
      (broadcastInDim S64x1x2048 ![0, 1, 2] bcast_S64x1x1_S64x1x2048_0_1_2 (broadcastInDim S64x1x1 ![0] bcast_S64_S64x1x1_0
        (shapeCast _ (broadcastInDim S16x4 ![0, 1] bcast_S1x4_S16x4_0_1 (shapeCast _ n shapeCasts_S4_S1x4)) shapeCasts_S16x4_S64))))

/-- The masked scores. -/
def masked (n : IVec S4 32) (q k : FVec Ideal S64x2048x64 .f32) : FVec Ideal S64x2048x2048 .f32 :=
  select (outside n) (broadcastInDim S64x2048x2048 ![] bcast_S_S64x2048x2048 (constant S_ .f32 0xFF800000#32))
    (Host.divf (Host.dotGeneral dot_S64x2048x64_S64x2048x64_S64x2048x2048_2_2_1_1_0_0 none q k)
      (broadcastInDim S64x2048x2048 ![] bcast_S_S64x2048x2048 (Host.sqrt (constant S_ .f32 0x42800000#32))))

/-- The maximum of each row of scores. -/
def peak (s : FVec Ideal S64x2048x2048 .f32) : FVec Ideal S64x2048 .f32 :=
  Host.reduce FloatOps.maximumf s (constant S_ .f32 0xFF800000#32) reducesTo_S64x2048x2048_S64x2048_d2 h_S_

/-- The exponentials of the scores less a value per row. -/
def lifted (s : FVec Ideal S64x2048x2048 .f32) (u : FVec Ideal S64x2048 .f32) : FVec Ideal S64x2048x2048 .f32 :=
  Host.exp (subf s (broadcastInDim S64x2048x2048 ![0, 1, 2] bcast_S64x2048x1_S64x2048x2048_0_1_2 (broadcastInDim S64x2048x1 ![0, 1] bcast_S64x2048_S64x2048x1_0_1
    (maximumf (broadcastInDim S64x2048 ![] bcast_S_S64x2048 (constant S_ .f32 0xFF800000#32)) u))))

/-- The softmax weights. -/
def normal (e : FVec Ideal S64x2048x2048 .f32) : FVec Ideal S64x2048x2048 .f32 :=
  Host.divf e (broadcastInDim S64x2048x2048 ![0, 1, 2] bcast_S64x2048x1_S64x2048x2048_0_1_2 (broadcastInDim S64x2048x1 ![0, 1] bcast_S64x2048_S64x2048x1_0_1
    (Host.reduceAdd e (constant S_ .f32 0x00000000#32) reducesTo_S64x2048x2048_S64x2048_d2 h_S_)))

/-- The softmax weights over the keys. -/
def soft (s : FVec Ideal S64x2048x2048 .f32) : FVec Ideal S64x2048x2048 .f32 := normal (lifted s (peak s))

/-- The heads' outputs side by side again, times the last weights. -/
def join (p : FVec Ideal S64x2048x2048 .f32) (v : FVec Ideal S64x2048x64 .f32) (w : FVec Ideal S1024x1024 .f32) : FVec Ideal S4x2048x1024 .f32 :=
  Host.dotGeneral dot_S4x2048x1024_S1024x1024_S4x2048x1024_2_0_01_1_n_n none (shapeCast _ (transpose S4x2048x16x64 [0, 2, 1, 3]
    (shapeCast _ (Host.dotGeneral dot_S64x2048x2048_S64x2048x64_S64x2048x64_2_1_1_2_0_0 none p v) shapeCasts_S64x2048x64_S4x16x2048x64)
      transposes_S4x16x2048x64_S4x2048x16x64_0_2_1_3) shapeCasts_S4x2048x16x64_S4x2048x1024) w

theorem stages (m : (ℓ : Loc nD τ sig) → Buf (Elt Ideal) ℓ) (c : Dev nD) :
    Cert.ReferenceIdeal.Value.res_main_v41 m c
      = join (soft (masked (m ((c.tc : Thread nD τ).loc main_arg3)) (split (m ((c.tc : Thread nD τ).loc main_arg0)) (m ((c.tc : Thread nD τ).loc main_arg4)))
          (split (m ((c.tc : Thread nD τ).loc main_arg1)) (m ((c.tc : Thread nD τ).loc main_arg5)))))
        (split (m ((c.tc : Thread nD τ).loc main_arg2)) (m ((c.tc : Thread nD τ).loc main_arg6))) (m ((c.tc : Thread nD τ).loc main_arg7)) := rfl

theorem split_apply (x : FVec Ideal S4x2048x1024 .f32) (w : FVec Ideal S1024x1024 .f32) (b : Fin 4) (h : Fin 16) (r : Fin 2048) (e : Fin 64) :
    split x w (ix3 ⟨16 * b.val + h.val, by omega⟩ r e) = ∑ l : Fin 1024, x (ix3 b r l) * w (ix2 l ⟨64 * h.val + e.val, by omega⟩) := by
  pointwise [split]
  simp only [Nat.mul_comm]

theorem outside_apply (n : IVec S4 32) (g : Fin 64) (r k : Fin 2048) :
    outside n (ix3 g r k) = IntOp.cmpi .sge (BitVec.ofNat 32 k.val) (n (ix1 ⟨g.val % 4, by omega⟩)) := by
  pointwise [outside]

theorem sqrt_64 : Ideal.sqrt ((64 : ℝ) : EReal) = ((8 : ℝ) : EReal) := by
  rw [Ideal.sqrt_coe, if_neg (by norm_num), show (64 : ℝ) = 8 ^ 2 by norm_num, Real.sqrt_sq (by norm_num)]

theorem masked_apply (n : IVec S4 32) (q k : FVec Ideal S64x2048x64 .f32) (g : Fin 64) (r y : Fin 2048) :
    masked n q k (ix3 g r y) = if (n (ix1 ⟨g.val % 4, by omega⟩)).toInt ≤ y.val then ⊥ else Ideal.div (∑ e : Fin 64, q (ix3 g r e) * k (ix3 g y e)) ((8 : ℝ) : EReal) := by
  pointwise [masked]
  rw [outside_apply, bits_negInf, bits_64, Scalar.select, sqrt_64]
  refine if_congr (IntOp.cmpi_sge.trans ?_) rfl rfl
  rw [WordCmp.toInt_ofNat_of_lt (by omega)]

theorem lifted_apply (s : FVec Ideal S64x2048x2048 .f32) (u : FVec Ideal S64x2048 .f32) (g : Fin 64) (r y : Fin 2048) :
    lifted s u (ix3 g r y) = Ideal.exp (s (ix3 g r y) - u (ix2 g r)) := by
  pointwise [lifted]
  rw [bits_negInf, bot_sup_eq]

theorem peak_apply (s : FVec Ideal S64x2048x2048 .f32) (g : Fin 64) (r : Fin 2048) :
    peak s (ix2 g r) = Finset.univ.fold max ⊥ fun k : Fin 2048 => s (ix3 g r k) := by
  pointwise [peak]
  rw [bits_negInf]

theorem normal_apply (e : FVec Ideal S64x2048x2048 .f32) (g : Fin 64) (r y : Fin 2048) :
    normal e (ix3 g r y) = Ideal.div (e (ix3 g r y)) (∑ k : Fin 2048, e (ix3 g r k)) := by
  pointwise [normal]

theorem join_apply (p : FVec Ideal S64x2048x2048 .f32) (v : FVec Ideal S64x2048x64 .f32) (w : FVec Ideal S1024x1024 .f32) (b : Fin 4) (r : Fin 2048) (d : Fin 1024) :
    join p v w (ix3 b r d) = ∑ x : Fin 1024, (∑ y : Fin 2048, p (ix3 ⟨16 * b.val + x.val / 64, by omega⟩ r y) * v (ix3 ⟨16 * b.val + x.val / 64, by omega⟩ y ⟨x.val % 64, by omega⟩)) * w (ix2 x d) := by
  pointwise [join]
  simp only [Nat.mul_comm]

theorem soft_apply (s : FVec Ideal S64x2048x2048 .f32) (g : Fin 64) (r y : Fin 2048) :
    soft s (ix3 g r y) = Ideal.div (Ideal.exp (s (ix3 g r y) - Finset.univ.fold max ⊥ fun k : Fin 2048 => s (ix3 g r k)))
      (∑ j : Fin 2048, Ideal.exp (s (ix3 g r j) - Finset.univ.fold max ⊥ fun k : Fin 2048 => s (ix3 g r k))) := by
  simp only [soft, normal_apply, lifted_apply, peak_apply]

/-- An element of an input times a weight matrix. -/
def times (x : FVec Ideal S4x2048x1024 .f32) (w : FVec Ideal S1024x1024 .f32) (b : Fin 4) (r : Fin 2048) (d : Fin 1024) : EReal :=
  ∑ l : Fin 1024, x (ix3 b r l) * w (ix2 l d)

/-- Column `x` of the heads' outputs at row `r` of batch `b`. -/
def headAt (query key value : FVec Ideal S4x2048x1024 .f32) (n : IVec S4 32) (wq wk wv : FVec Ideal S1024x1024 .f32)
    (b : Fin 4) (r : Fin 2048) (x : Fin 1024) : EReal :=
  average (fun y : Fin 2048 => if (n (ix1 ⟨x.val / 64 % 4, by omega⟩)).toInt ≤ y.val then ⊥ else
      Ideal.div (∑ e : Fin 64, times query wq b r ⟨64 * (x.val / 64) + e.val, by omega⟩ * times key wk b y ⟨64 * (x.val / 64) + e.val, by omega⟩) ((8 : ℝ) : EReal))
    (fun y => times value wv b y x)

theorem joined (query key value : FVec Ideal S4x2048x1024 .f32) (n : IVec S4 32) (wq wk wv wo : FVec Ideal S1024x1024 .f32)
    (b : Fin 4) (r : Fin 2048) (d : Fin 1024) :
    join (soft (masked n (split query wq) (split key wk))) (split value wv) wo (ix3 b r d)
      = ∑ x : Fin 1024, headAt query key value n wq wk wv b r x * wo (ix2 x d) := by
  rw [join_apply]
  refine Finset.sum_congr rfl fun x _ => congrArg (· * wo (ix2 x d)) ?_
  have hs (X W) (y : Fin 2048) (e : Fin 64) : split X W (ix3 ⟨16 * b.val + x.val / 64, by omega⟩ y e)
      = times X W b y ⟨64 * (x.val / 64) + e.val, by omega⟩ := split_apply X W b ⟨x.val / 64, by omega⟩ y e
  have hx : (⟨64 * (x.val / 64) + x.val % 64, by omega⟩ : Fin 1024) = x := Fin.ext (Nat.div_add_mod x.val 64)
  have hg : (⟨(16 * b.val + x.val / 64) % 4, by omega⟩ : Fin 4) = ⟨x.val / 64 % 4, by omega⟩ := Fin.ext (by show _ % 4 = _ % 4; omega)
  simp only [soft_apply, masked_apply, hs, hx, hg, headAt, average]

theorem result_apply (m : (ℓ : Loc nD τ sig) → Buf (Elt Ideal) ℓ) (c : Dev nD) (b : Fin 4) (r : Fin 2048) (d : Fin 1024) :
    (Cert.ReferenceIdeal.Value.res_main_v41 m c : FVec Ideal S4x2048x1024 .f32) (ix3 b r d)
      = ∑ x : Fin 1024, headAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) b r x
          * (m ((c.tc : Thread nD τ).loc main_arg7) : FVec Ideal S1024x1024 .f32) (ix2 x d) := by
  rw [stages]
  exact joined _ _ _ _ _ _ _ _ b r d

end Cert.Proof.Attention.Reference

end
-- ==== Proof.Projections.lean ====
/- What the first and the third pipelined call leave in their output arrays, over the extended reals, whatever the arrays
   hold when the call is entered: the three projections of the inputs (the first scaled, the third transposed), and the
   projection of the heads' outputs. -/
module

public import proofs.«01_k».proof.Proof.Gen.KernelIdeal.Frame
public import proofs.«01_k».proof.Proof.Consts
public import Idealize.ShloMosaic.Lib.Pipeline.ValueKit
public import Idealize.ShloMosaic.Lib.Pointwise

@[expose] public section

set_option maxRecDepth 16384

noncomputable section

namespace Cert.Proof.Attention

open Idealize.ShloMosaic Idealize.ShloMosaic.TcCoe Idealize.SL.Sem
open Idealize.ShloMosaic.Pipeline (Dat)
open Cert.KernelIdeal Cert.KernelIdeal.Gen

/-- The factor of the scores: an eighth, over the logarithm of two. -/
def factor : EReal := (((1 / 8) * (Real.log 2)⁻¹ : ℝ) : EReal)

/-- The queries' block: a product with the weights, scaled. -/
theorem scaled_apply (x : Vec Ideal S512x1024 .f32) (w : Vec Ideal S1024x1024 .f32) (r : Fin 512) (d : Fin 1024) :
    k0_pay1 (F := Ideal) x w (ix2 r d) = (∑ e : Fin 1024, x (ix2 r e) * w (ix2 e d)) * factor := by
  pointwise [k0_pay1]
  rfl

theorem product_apply (x : Vec Ideal S512x1024 .f32) (w : Vec Ideal S1024x1024 .f32) (r : Fin 512) (d : Fin 1024) :
    k0_pay2 (F := Ideal) x w (ix2 r d) = ∑ e : Fin 1024, x (ix2 r e) * w (ix2 e d) := by
  pointwise [k0_pay2]

theorem transposed_apply (x : Vec Ideal S512x1024 .f32) (w : Vec Ideal S1024x1024 .f32) (a : Fin 1) (d : Fin 1024) (r : Fin 512) :
    k0_pay3 (F := Ideal) x w (ix3 a d r) = ∑ e : Fin 1024, x (ix2 r e) * w (ix2 e d) := by
  pointwise [k0_pay3]

theorem last_apply (x : Vec Ideal S512x1024 .bf16) (w : Vec Ideal S1024x1024 .f32) (r : Fin 512) (d : Fin 1024) :
    k2_pay1 (F := Ideal) x w (ix2 r d) = ∑ e : Fin 1024, x (ix2 r e) * w (ix2 e d) := by
  pointwise [k2_pay1]

/-- The blocks' places in their arrays at every point of the first call. -/
theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] ∧ win0_8.index t = ![t.val / 4, 0, t.val % 4] :=
  (by decide +kernel : ∀ t : Fin grid0.N, _)

theorem idx2 : ∀ t : Fin cfg2.N, win2_0.index t = ![t.val, 0] ∧ win2_1.index t = ![0, 0] ∧ win2_2.index t = ![t.val, 0] :=
  (by decide +kernel : ∀ t : Fin grid2.N, _)

section

variable (V : (c : Dev nD) → (b : Ref sig .tc) → Buf (Elt Ideal) ((c : Thread nD τ).loc b))

/-- A row of one array times a column of another. -/
def rowCol {R : ℕ} {e₁ e₂ : FTy} (x : FVec Ideal ⟨2, ![R, 1024]⟩ e₁) (w : FVec Ideal ⟨2, ![1024, 1024]⟩ e₂) (r : Fin R) (d : Fin 1024) : EReal :=
  ∑ e : Fin 1024, x (ix2 r e) * w (ix2 e d)

theorem queries (c : Dev nD) : (dat0 V c).arrAt 6 cfg0.N = fun i : S8192x1024.Idx =>
    rowCol (R := 8192) (e₁ := .f32) (e₂ := .f32) (V c main_v0) (V c main_arg4) (i 0) (i 1) * factor := by
  refine (dat0 V c).arrAt_eq_of_covers 6 _ (by decide +kernel) fun t hf y => ?_
  blk_simp
  rw [after0_6]
  frame_out
  obtain ⟨r, d, rfl⟩ : ∃ (r : Fin 512) (d : Fin 1024), y = ix2 r d := ⟨y 0, y 1, eq_ix2 y⟩
  rw [scaled_apply]
  unfold rowCol
  congr 1
  blk_point [iblk0, idx0 t]

theorem keys (c : Dev nD) : (dat0 V c).arrAt 7 cfg0.N = fun i : S8192x1024.Idx =>
    rowCol (R := 8192) (e₁ := .f32) (e₂ := .f32) (V c main_v1) (V c main_arg5) (i 0) (i 1) := by
  refine (dat0 V c).arrAt_eq_of_covers 7 _ (by decide +kernel) fun t hf y => ?_
  blk_simp
  rw [after0_7]
  frame_out
  obtain ⟨r, d, rfl⟩ : ∃ (r : Fin 512) (d : Fin 1024), y = ix2 r d := ⟨y 0, y 1, eq_ix2 y⟩
  rw [product_apply]
  unfold rowCol
  blk_point [iblk0, idx0 t]

/-- The values' projection, each batch transposed: 2048 rows of the input make a batch. -/
theorem values (c : Dev nD) : (dat0 V c).arrAt 8 cfg0.N = fun i : S4x1024x2048.Idx =>
    rowCol (R := 8192) (e₁ := .f32) (e₂ := .f32) (V c main_v2) (V c main_arg6)
      ⟨2048 * (i 0).val + (i 2).val, by have h0 : (i 0).val < 4 := (i 0).isLt; have h2 : (i 2).val < 2048 := (i 2).isLt; omega⟩ (i 1) := by
  refine (dat0 V c).arrAt_eq_of_covers 8 _ (by decide +kernel) fun t hf y => ?_
  blk_simp
  rw [after0_8]
  frame_out
  obtain ⟨a, d, r, rfl⟩ : ∃ (a : Fin 1) (d : Fin 1024) (r : Fin 512), y = ix3 a d r := ⟨y 0, y 1, y 2, eq_ix3 y⟩
  rw [transposed_apply]
  unfold rowCol
  blk_point [iblk0, idx0 t]

theorem outputs (c : Dev nD) : (dat2 V c).arrAt 2 cfg2.N = fun i : S8192x1024.Idx =>
    rowCol (R := 8192) (e₁ := .bf16) (e₂ := .f32) (V c main_v7) (V c main_arg7) (i 0) (i 1) := by
  refine (dat2 V c).arrAt_eq_of_covers 2 _ (by decide +kernel) fun t hf y => ?_
  blk_simp
  rw [after2_2]
  frame_out
  obtain ⟨r, d, rfl⟩ : ∃ (r : Fin 512) (d : Fin 1024), y = ix2 r d := ⟨y 0, y 1, eq_ix2 y⟩
  rw [last_apply]
  unfold rowCol
  blk_point [iblk2, idx2 t]

end

end Cert.Proof.Attention

end
-- ==== Proof.Head.lean ====
/- Region 1 of the kernel, one grid point: eight heads, one after another, each through the same operations on its own 64
   lanes. A head's scores go through one half of a two-page scratch and come back 256 rows at a time; a load of rows of
   the newest page is a slice of the scores, whatever was stored before (`rows_of_newest`). So the point's output is eight
   times one function `head` of the head's query, key and value blocks, and of its valid length. -/
module

public import proofs.«01_k».proof.Proof.Gen.KernelIdeal.Frame
public import Idealize.ShloMosaic.Lib.Pointwise

@[expose] public section

set_option maxRecDepth 16384

noncomputable section

namespace Cert.Proof.Attention

open Idealize.ShloMosaic Idealize.ShloMosaic.TcCoe Idealize.SL.Sem
open Cert.KernelIdeal Cert.KernelIdeal.Gen

variable {F : FTy → Type} [FloatOps F] [Named F]

/-! ## A head as a function -/

theorem slices_rows (c : Fin 8) : S2048x512.Slices ![256 * c.val, 0] S256x512 := by
  revert c; decide

theorem slices_cols (c : Fin 8) : S80x2048.Slices ![0, 256 * c.val] S80x256 := by
  revert c; decide

/-- The scores of one head, keys down and queries across. -/
def scores (q : FVec F S512x64 .bf16) (k : FVec F S2048x64 .bf16) : FVec F S2048x512 .f32 :=
  matmul dot_S2048x64_S512x64_S2048x512_1_1_0_0_n_n none k q (constant S2048x512 .f32 0x00000000#32)

/-- One for a key below the valid length, zero for the others. -/
def keep (n : Elt F .i32) : FVec F S1x2048 .bf16 :=
  truncf .bf16 (select (cmpi .sge (iota .tc S1x2048 32 [1] iota_S1x2048_d1_w32) (broadcast S1x2048 n))
    (broadcast S1x2048 (Scalar.ofBits .f32 0x00000000#32 : F .f32)) (broadcast S1x2048 (Scalar.ofBits .f32 0x3F800000#32 : F .f32)))
    bitsLt_bf16_f32

/-- The values kept, and under them sixteen rows of the mask itself, whose products sum to the denominator. -/
def augmented (n : Elt F .i32) (v : FVec F S64x2048 .bf16) : FVec F S80x2048 .bf16 :=
  concatenate S80x2048 0 [⟨S64x2048, mulf v (broadcastTo S64x2048 (keep n) broadcasts_S1x2048_S64x2048)⟩,
    ⟨S16x2048, broadcastTo S16x2048 (shapeCast S1x2048 (keep n) shapeCasts_S1x2048_S1x2048) broadcasts_S1x2048_S16x2048⟩]
    concatenates_S64x2048_S16x2048_S80x2048_d0

/-- The largest score of each query, over every key. -/
def peak (s : FVec F S2048x512 .f32) : FVec F S1x512 .bf16 :=
  truncf .bf16 (shapeCast S1x512 (multiReduction .maximumf [0] S512 s 0xFF800000#32 reduces_S2048x512_S512 (.inl rfl) rfl)
    shapeCasts_S512_S1x512) bitsLt_bf16_f32

/-- What 256 keys contribute to the weighted values and to the denominator. -/
def share (a : FVec F S80x2048 .bf16) (m : FVec F S1x512 .bf16) (part : Fin 8 → FVec F S256x512 .f32) (c : Fin 8) : FVec F S80x512 .f32 :=
  matmul dot_S80x256_S256x512_S80x512_1_0_0_1_n_n none (extractStridedSlice S80x256 ![0, 256 * c.val] a (slices_cols c))
    (exp2 (subf (truncf .bf16 (part c) bitsLt_bf16_f32) (broadcastTo S256x512 m broadcasts_S1x512_S256x512)))
    (constant S80x512 .f32 0x00000000#32)

/-- The eight shares added up. -/
def total (a : FVec F S80x2048 .bf16) (m : FVec F S1x512 .bf16) (part : Fin 8 → FVec F S256x512 .f32) : FVec F S80x512 .f32 :=
  addf (addf (addf (addf (addf (addf (addf (addf (broadcast S80x512 (Scalar.ofBits .f32 0x00000000#32 : F .f32))
    (share a m part 0)) (share a m part 1)) (share a m part 2)) (share a m part 3))
    (share a m part 4)) (share a m part 5)) (share a m part 6)) (share a m part 7)

/-- The weighted values divided by the denominator, queries down. -/
def quotient (t : FVec F S80x512 .f32) : FVec F S512x64 .bf16 :=
  truncf .bf16 (transpose S512x64 [1, 0] (mulf (extractStridedSlice S64x512 ![0, 0] t slices_S80x512_o0_0_S64x512)
    (broadcastTo S64x512 (divf (broadcast S1x512 (Scalar.ofBits .f32 0x3F800000#32 : F .f32))
      (extractStridedSlice S1x512 ![64, 0] t slices_S80x512_o64_0_S1x512)) broadcasts_S1x512_S64x512))
    transposes_S64x512_p1_0_S512x64) bitsLt_bf16_f32

/-- A head over its scores as they come back from the scratch: whole for the maximum, then 256 rows at a time. -/
def headOver (n : Elt F .i32) (v : FVec F S64x2048 .bf16) (s : FVec F S2048x512 .f32) (part : Fin 8 → FVec F S256x512 .f32) : FVec F S512x64 .bf16 :=
  quotient (total (augmented n v) (peak s) part)

/-- A head over its blocks. -/
def head (n : Elt F .i32) (q : FVec F S512x64 .bf16) (k : FVec F S2048x64 .bf16) (v : FVec F S64x2048 .bf16) : FVec F S512x64 .bf16 :=
  headOver n v (scores q k) fun c => extractStridedSlice S256x512 ![256 * c.val, 0] (scores q k) (slices_rows c)

/-! ## The scratch read back -/

theorem page_inb (p : Fin 2) (a : Fin 3) : (![p.val, 0, 0] : Fin 3 → ℕ) a + S1x2048x512.size a ≤ S2x2048x512.size a := by
  revert p a; decide

theorem rows_inb (p : Fin 2) (c : Fin 8) (a : Fin 3) :
    (![p.val, 256 * c.val, 0] : Fin 3 → ℕ) a + S1x256x512.size a ≤ S2x2048x512.size a := by
  revert p c a; decide

/-- Page `p` of the scratch, whole, and its rows from `256 c` on. -/
abbrev page (p : Fin 2) : Rect S2x2048x512 := Rect.unit (s := S2x2048x512) ![p.val, 0, 0] S1x2048x512.size (page_inb p)
abbrev rows (p : Fin 2) (c : Fin 8) : Rect S2x2048x512 := Rect.unit (s := S2x2048x512) ![p.val, 256 * c.val, 0] S1x256x512.size (rows_inb p c)

section Scratch

variable (v : View sig .tc .vmem S2x2048x512 .f32) (p : Fin 2) (s : FVec F S2048x512 .f32) (L : List (View.Piece (Elt F) S2x2048x512 .f32))

/-- The newest page read whole is the scores stored. -/
theorem page_of_newest :
    shapeCast S2048x512 (v.readCov (⟨page p, shapeCast S1x2048x512 s shapeCasts_S2048x512_S1x2048x512⟩ :: L) (page p).toLoadRect)
      shapeCasts_S1x2048x512_S2048x512 = s := by
  rw [View.readCov_cons_toLoadRect]
  exact shapeCast_shapeCast _ _ _

omit [FloatOps F] [Named F] in
theorem rows_idx (c : Fin 8) (r : Fin 256) (l : Fin 512) :
    (rows p c).toLoadRect.idx (ix3 0 r l) = (page p).emb (ix3 0 ⟨256 * c.val + r.val, by omega⟩ l) := by
  funext a
  apply Fin.ext
  match a with
  | ⟨0, _⟩ => show p.val + 1 * 0 = p.val + 1 * 0; rfl
  | ⟨1, _⟩ => show 256 * c.val + 1 * r.val = 0 + 1 * (256 * c.val + r.val); omega
  | ⟨2, _⟩ => show 0 + 1 * l.val = 0 + 1 * l.val; rfl

/-- Rows of the newest page are those rows of the scores stored. -/
theorem rows_of_newest (c : Fin 8) :
    shapeCast S256x512 (v.readCov (⟨page p, shapeCast S1x2048x512 s shapeCasts_S2048x512_S1x2048x512⟩ :: L) (rows p c).toLoadRect)
      shapeCasts_S1x256x512_S256x512 = extractStridedSlice S256x512 ![256 * c.val, 0] s (slices_rows c) := by
  rw [View.readCov_eq_canon']
  funext j
  obtain ⟨r, l, rfl⟩ : ∃ (r : Fin 256) (l : Fin 512), j = ix2 r l := ⟨j 0, j 1, eq_ix2 j⟩
  have h : ∀ f : S1x256x512.Idx → Elt F .f32, shapeCast S256x512 f shapeCasts_S1x256x512_S256x512 (ix2 r l) = f (ix3 0 r l) := by
    intro f; pointwise
  refine (h _).trans ?_
  rw [rows_idx, View.canon_cons_emb]
  pointwise

/-- A head over what the scratch returns is the head over its scores. -/
theorem headOver_newest (n : Elt F .i32) (x : FVec F S64x2048 .bf16) (q : FVec F S512x64 .bf16) (k : FVec F S2048x64 .bf16) :
    headOver n x
      (shapeCast S2048x512 (v.readCov (⟨page p, shapeCast S1x2048x512 (scores q k) shapeCasts_S2048x512_S1x2048x512⟩ :: L) (page p).toLoadRect)
        shapeCasts_S1x2048x512_S2048x512)
      (fun c => shapeCast S256x512 (v.readCov (⟨page p, shapeCast S1x2048x512 (scores q k) shapeCasts_S2048x512_S1x2048x512⟩ :: L) (rows p c).toLoadRect)
        shapeCasts_S1x256x512_S256x512)
      = head n q k x := by
  unfold head
  rw [page_of_newest]
  congr 1
  funext c
  exact rows_of_newest v p (scores q k) L c

end Scratch

/-! ## The point's output -/

theorem lanes_inb (j : Fin 8) (a : Fin 3) : (![0, 0, 64 * j.val] : Fin 3 → ℕ) a + S1x512x64.size a ≤ S1x512x512.size a := by
  revert j a; decide

theorem keyLanes_inb (j : Fin 8) (a : Fin 3) : (![0, 0, 64 * j.val] : Fin 3 → ℕ) a + S1x2048x64.size a ≤ S1x2048x512.size a := by
  revert j a; decide

theorem valueLanes_inb (j : Fin 8) (a : Fin 3) : (![0, 64 * j.val, 0] : Fin 3 → ℕ) a + S1x64x2048.size a ≤ S1x512x2048.size a := by
  revert j a; decide

theorem length_inb (i : grid1.Coords) (j : Fin 8) (a : Fin 1) : k1_off1 i (BitVec.ofNat 32 j.val) a + S1.size a ≤ S4.size a :=
  k1_off1_inb i j a

/-- Head `j` of a point, out of the point's blocks of 512 lanes. -/
def headAt (i : grid1.Coords) (n : Vec F S4 .i32) (q : Vec F S1x512x512 .bf16) (k : Vec F S1x2048x512 .bf16) (v : Vec F S1x512x2048 .bf16) (j : Fin 8) :
    FVec F S512x64 .bf16 :=
  head (View.ld n (Rect.unit (s := S4) (k1_off1 i (BitVec.ofNat 32 j.val)) S1.size (length_inb i j)) (Shape.Idx.first (show 0 < S1.numel by decide)))
    (shapeCast S512x64 (View.ld q (Rect.unit (s := S1x512x512) ![0, 0, 64 * j.val] S1x512x64.size (lanes_inb j))) shapeCasts_S1x512x64_S512x64)
    (shapeCast S2048x64 (View.ld k (Rect.unit (s := S1x2048x512) ![0, 0, 64 * j.val] S1x2048x64.size (keyLanes_inb j))) shapeCasts_S1x2048x64_S2048x64)
    (shapeCast S64x2048 (View.ld v (Rect.unit (s := S1x512x2048) ![0, 64 * j.val, 0] S1x64x2048.size (valueLanes_inb j))) shapeCasts_S1x64x2048_S64x2048)

section Point

variable (i : grid1.Coords) (arg2 : Memref sig .tc .smem S4 .i32) (harg2 : arg2.IsWhole) (arg3 : Memref sig .tc .vmem S1x512x512 .bf16) (harg3 : arg3.IsWhole)
  (arg4 : Memref sig .tc .vmem S1x2048x512 .bf16) (harg4 : arg4.IsWhole) (arg5 : Memref sig .tc .vmem S1x512x2048 .bf16) (harg5 : arg5.IsWhole)
  (x0 : Vec F S4 .i32) (x1 : Vec F S1x512x512 .bf16) (x2 : Vec F S1x2048x512 .bf16) (x3 : Vec F S1x512x2048 .bf16)

/-- What the body loads for head `j` off its staging buffers. -/
def loadedQuery (j : Fin 8) : FVec F S512x64 .bf16 :=
  shapeCast S512x64 (View.readAt (Elt F) arg3.view (Rect.unit (s := S1x512x512) ![0, 0, 64 * j.val] S1x512x64.size (lanes_inb j)).toLoadRect (harg3.unread x1))
    shapeCasts_S1x512x64_S512x64
def loadedKey (j : Fin 8) : FVec F S2048x64 .bf16 :=
  shapeCast S2048x64 (View.readAt (Elt F) arg4.view (Rect.unit (s := S1x2048x512) ![0, 0, 64 * j.val] S1x2048x64.size (keyLanes_inb j)).toLoadRect (harg4.unread x2))
    shapeCasts_S1x2048x64_S2048x64
def loadedValue (j : Fin 8) : FVec F S64x2048 .bf16 :=
  shapeCast S64x2048 (View.readAt (Elt F) arg5.view (Rect.unit (s := S1x512x2048) ![0, 64 * j.val, 0] S1x64x2048.size (valueLanes_inb j)).toLoadRect (harg5.unread x3))
    shapeCasts_S1x64x2048_S64x2048
def loadedLength (j : Fin 8) : Elt F .i32 :=
  View.readAt (Elt F) arg2.view (Rect.unit (s := S4) (k1_off1 i (BitVec.ofNat 32 j.val)) S1.size (length_inb i j)).toLoadRect (harg2.unread x0)
    (Shape.Idx.first (show 0 < S1.numel by decide))

/-- The pages stored by the first `n` heads, the newest first. -/
def pages : ℕ → List (View.Piece (Elt F) S2x2048x512 .f32)
  | 0 => []
  | n + 1 => ⟨page (Fin.ofNat 2 n), shapeCast S1x2048x512 (scores (loadedQuery arg3 harg3 x1 (Fin.ofNat 8 n)) (loadedKey arg4 harg4 x2 (Fin.ofNat 8 n)))
      shapeCasts_S2048x512_S1x2048x512⟩ :: pages n

/-- Head `n` over what the body loads, its scores read back from the scratch. -/
def loadedHead (v : View sig .tc .vmem S2x2048x512 .f32) (n : ℕ) : FVec F S512x64 .bf16 :=
  headOver (loadedLength i arg2 harg2 x0 (Fin.ofNat 8 n)) (loadedValue arg5 harg5 x3 (Fin.ofNat 8 n))
    (shapeCast S2048x512 (v.readCov (pages arg3 harg3 arg4 harg4 x1 x2 (n + 1)) (page (Fin.ofNat 2 n)).toLoadRect) shapeCasts_S1x2048x512_S2048x512)
    (fun c => shapeCast S256x512 (v.readCov (pages arg3 harg3 arg4 harg4 x1 x2 (n + 1)) (rows (Fin.ofNat 2 n) c).toLoadRect) shapeCasts_S1x256x512_S256x512)

theorem loadedHead_eq (v : View sig .tc .vmem S2x2048x512 .f32) (n : ℕ) :
    loadedHead i arg2 harg2 arg3 harg3 arg4 harg4 arg5 harg5 x0 x1 x2 x3 v n = headAt i x0 x1 x2 x3 (Fin.ofNat 8 n) := by
  unfold loadedHead
  refine (headOver_newest v (Fin.ofNat 2 n) (pages arg3 harg3 arg4 harg4 x1 x2 n) _ _ _ _).trans ?_
  unfold headAt loadedLength loadedQuery loadedKey loadedValue
  simp only [View.readAt_eq_ld, harg2.read_unread, harg3.read_unread, harg4.read_unread, harg5.read_unread]

set_option maxHeartbeats 1000000 in
/-- What a point leaves in the output's staging buffer: its eight heads side by side. -/
theorem out_heads (c : Dev nD) (arg6 : Memref sig .tc .vmem S1x512x512 .bf16) (harg6 : arg6.IsWhole)
    (arg7 : Memref sig .tc .vmem S2x2048x512 .f32) (harg7 : arg7.IsWhole) :
    out1_A_4 c i arg2 harg2 arg3 harg3 arg4 harg4 arg5 harg5 arg6 harg6 arg7 harg7 x0 x1 x2 x3
      = shapeCast S1x512x512 (concatenate S512x512 1 [⟨S512x64, headAt i x0 x1 x2 x3 0⟩, ⟨S512x64, headAt i x0 x1 x2 x3 1⟩,
          ⟨S512x64, headAt i x0 x1 x2 x3 2⟩, ⟨S512x64, headAt i x0 x1 x2 x3 3⟩, ⟨S512x64, headAt i x0 x1 x2 x3 4⟩,
          ⟨S512x64, headAt i x0 x1 x2 x3 5⟩, ⟨S512x64, headAt i x0 x1 x2 x3 6⟩, ⟨S512x64, headAt i x0 x1 x2 x3 7⟩]
          concatenates_S512x64_S512x64_S512x64_S512x64_S512x64_S512x64_S512x64_S512x64_S512x512_d1) shapeCasts_S512x512_S1x512x512 := by
  have hh := loadedHead_eq i arg2 harg2 arg3 harg3 arg4 harg4 arg5 harg5 x0 x1 x2 x3 arg7.view
  have h0 := hh 0
  have h1 := hh 1
  have h2 := hh 2
  have h3 := hh 3
  have h4 := hh 4
  have h5 := hh 5
  have h6 := hh 6
  have h7 := hh 7
  rw [show headAt i x0 x1 x2 x3 0 = _ from h0.symm, show headAt i x0 x1 x2 x3 1 = _ from h1.symm,
    show headAt i x0 x1 x2 x3 2 = _ from h2.symm, show headAt i x0 x1 x2 x3 3 = _ from h3.symm,
    show headAt i x0 x1 x2 x3 4 = _ from h4.symm, show headAt i x0 x1 x2 x3 5 = _ from h5.symm,
    show headAt i x0 x1 x2 x3 6 = _ from h6.symm, show headAt i x0 x1 x2 x3 7 = _ from h7.symm]
  have hz : (![0, 0, 0] : Fin 3 → ℕ) = fun _ => 0 := by decide
  unfold out1_A_4
  rw [View.read_writes_eq_canon _ _ _ (cover1_A_4 c i arg2 harg2 arg3 harg3 arg4 harg4 arg5 harg5 arg6 harg6 arg7 harg7 x0 x1 x2 x3)]
  unfold kernelRun1_A
  dsimp only
  rw [View.canon_unit_zero hz]
  sl_kernel_rfl

end Point

end Cert.Proof.Attention

end
-- ==== Proof.HeadValue.lean ====
/- A head of the kernel at one element, over the extended reals: sums over all 2048 keys of the masked values and of the
   mask, each times two to the score less the largest score. -/
module

public import proofs.«01_k».proof.Proof.Head
public import proofs.«01_k».proof.Proof.Consts
public import proofs.«01_k».proof.Proof.Softmax
public import Idealize.ShloMosaic.Lib.Pipeline.ValueKit.Acc

@[expose] public section

set_option maxRecDepth 16384

noncomputable section

namespace Cert.Proof.Attention

open Idealize.ShloMosaic Idealize.ShloMosaic.TcCoe Idealize.SL.Sem
open Cert.KernelIdeal Cert.KernelIdeal.Gen

/-- One for a key below the valid length (a signed word), zero for the others. -/
def kept (n : BitVec 32) (k : Fin 2048) : EReal := if n.toInt ≤ k.val then 0 else 1

theorem scores_apply (q : FVec Ideal S512x64 .bf16) (k : FVec Ideal S2048x64 .bf16) (r : Fin 512) (x : Fin 2048) :
    scores q k (ix2 x r) = ∑ e : Fin 64, k (ix2 x e) * q (ix2 r e) := by
  pointwise [scores]

theorem keep_apply (n : BitVec 32) (x : Fin 2048) : keep (F := Ideal) n (ix2 0 x) = kept n x := by
  pointwise [keep]
  rw [WordCmp.cmpi_sge_eq, WordCmp.toInt_ofNat_of_lt (by have := x.isLt; omega)]
  unfold kept
  by_cases h : n.toInt ≤ (x.val : ℤ)
  · rw [if_pos h, decide_eq_true h]; rfl
  · rw [if_neg h, decide_eq_false h]; rfl

theorem augmented_value (n : BitVec 32) (v : FVec Ideal S64x2048 .bf16) (d : Fin 64) (x : Fin 2048) :
    augmented n v (ix2 ⟨d.val, by omega⟩ x) = v (ix2 d x) * kept n x := by
  pointwise [augmented]
  rw [keep_apply]

theorem augmented_mask (n : BitVec 32) (v : FVec Ideal S64x2048 .bf16) (x : Fin 2048) :
    augmented n v (ix2 64 x) = kept n x := by
  pointwise [augmented]
  rw [keep_apply]

theorem peak_apply (s : FVec Ideal S2048x512 .f32) (r : Fin 512) :
    peak s (ix2 0 r) = Finset.univ.fold max ⊥ fun x => s (ix2 x r) := by
  pointwise [peak]
  rw [bits_negInf]

theorem share_apply (a : FVec Ideal S80x2048 .bf16) (m : FVec Ideal S1x512 .bf16) (part : Fin 8 → FVec Ideal S256x512 .f32) (c : Fin 8) (p : Fin 80) (r : Fin 512) :
    share a m part c (ix2 p r) = ∑ x : Fin 256, a (ix2 p ⟨256 * c.val + x.val, by omega⟩) * Ideal.exp2 (part c (ix2 x r) - m (ix2 0 r)) := by
  pointwise [share]
  rfl

/-- The eight shares over slices of the scores are one sum over every key. -/
theorem total_apply (a : FVec Ideal S80x2048 .bf16) (m : FVec Ideal S1x512 .bf16) (s : FVec Ideal S2048x512 .f32) (p : Fin 80) (r : Fin 512) :
    total a m (fun c => extractStridedSlice S256x512 ![256 * c.val, 0] s (slices_rows c)) (ix2 p r)
      = ∑ x : Fin 2048, a (ix2 p x) * Ideal.exp2 (s (ix2 x r) - m (ix2 0 r)) := by
  have h : ∀ c : Fin 8, share a m (fun c => extractStridedSlice S256x512 ![256 * c.val, 0] s (slices_rows c)) c (ix2 p r)
      = ∑ x : Fin 256, a (ix2 p ⟨256 * c.val + x.val, by omega⟩) * Ideal.exp2 (s (ix2 ⟨256 * c.val + x.val, by omega⟩ r) - m (ix2 0 r)) := by
    intro c
    rw [share_apply]
    refine Finset.sum_congr rfl fun x _ => ?_
    pointwise
  pointwise [total]
  simp only [h]
  rw [← Fin.sum_univ_eight (fun c : Fin 8 => ∑ x : Fin 256, a (ix2 p ⟨256 * c.val + x.val, by omega⟩)
    * Ideal.exp2 (s (ix2 ⟨256 * c.val + x.val, by omega⟩ r) - m (ix2 0 r)))]
  refine Fin.sum_mul_add_congr fun c x hl => ?_
  simp only [Nat.mul_comm 256]

theorem quotient_apply (t : FVec Ideal S80x512 .f32) (r : Fin 512) (d : Fin 64) :
    quotient t (ix2 r d) = t (ix2 ⟨d.val, by omega⟩ r) * Ideal.div 1 (t (ix2 64 r)) := by
  pointwise [quotient]

/-- A head at one element: its values weighed by its scores and mask. -/
theorem head_apply (n : BitVec 32) (q : FVec Ideal S512x64 .bf16) (k : FVec Ideal S2048x64 .bf16) (v : FVec Ideal S64x2048 .bf16) (r : Fin 512) (d : Fin 64) :
    head (F := Ideal) n q k v (ix2 r d)
      = weigh (fun x => ∑ e : Fin 64, k (ix2 x e) * q (ix2 r e)) (kept n) (fun x => v (ix2 d x)) := by
  unfold head headOver weigh
  rw [quotient_apply, total_apply, total_apply, peak_apply]
  simp only [augmented_value, augmented_mask, scores_apply]

end Cert.Proof.Attention

end
-- ==== Proof.Heads.lean ====
/- What the second pipelined call leaves in its output array, over the extended reals, whatever the arrays hold when the call
   is entered: every head's values weighed by its scores and its mask. -/
module

public import proofs.«01_k».proof.Proof.HeadValue
public import Idealize.ShloMosaic.Lib.Pipeline.ValueKit
public import Idealize.ShloMosaic.Lib.ValueLayout

@[expose] public section

set_option maxRecDepth 16384

noncomputable section

namespace Cert.Proof.Attention

open Idealize.ShloMosaic Idealize.ShloMosaic.TcCoe Idealize.SL.Sem
open Idealize.ShloMosaic.Pipeline (Dat)
open Cert.KernelIdeal Cert.KernelIdeal.Gen

/-- The blocks' places in their arrays at every point of the second call: a batch, half of its heads and a quarter of its
    queries. -/
theorem idx1 : ∀ t : Fin cfg1.N, win1_0.index t = ![0] ∧ win1_1.index t = ![t.val / 8, t.val % 4, t.val / 4 % 2]
    ∧ win1_2.index t = ![t.val / 8, 0, t.val / 4 % 2] ∧ win1_3.index t = ![t.val / 8, t.val / 4 % 2, 0]
    ∧ win1_4.index t = ![t.val / 8, t.val % 4, t.val / 4 % 2] :=
  (by decide +kernel : ∀ t : Fin grid1.N, _)

/-- Which valid length a head reads: its number modulo the four batches, at every point. -/
theorem length_place : ∀ (t : Fin cfg1.N) (j : Fin 8), k1_off1 (grid1.coords t) (BitVec.ofNat 32 j.val) = ![j.val % 4] :=
  (by decide +kernel : ∀ (t : Fin grid1.N) (j : Fin 8), _)

/-- Eight heads side by side, at one column. -/
theorem beside_apply (f : Fin 8 → FVec Ideal S512x64 .bf16) (r : Fin 512) (j : Fin 8) (d : Fin 64) :
    concatenate S512x512 1 [⟨S512x64, f 0⟩, ⟨S512x64, f 1⟩, ⟨S512x64, f 2⟩, ⟨S512x64, f 3⟩, ⟨S512x64, f 4⟩, ⟨S512x64, f 5⟩, ⟨S512x64, f 6⟩, ⟨S512x64, f 7⟩]
      concatenates_S512x64_S512x64_S512x64_S512x64_S512x64_S512x64_S512x64_S512x64_S512x512_d1 (ix2 r ⟨64 * j.val + d.val, by omega⟩)
      = f j (ix2 r d) := by
  fin_cases j <;> pointwise
  all_goals repeat first | rw [dif_pos (by omega)] | rw [dif_neg (by omega)]
  all_goals exact congrArg _ (congrArg (ix2 r) (Fin.ext (by simp only; omega)))

/-- The one word a head loads. -/
theorem word_apply (n : Vec Ideal S4 .i32) (off : Fin 1 → ℕ) (h : ∀ a, off a + S1.size a ≤ S4.size a) (p : Fin 4) (e : off = ![p.val]) (x : S1.Idx) :
    View.ld n (Rect.unit (s := S4) off S1.size h) x = n (ix1 p) := by
  subst e
  rw [show x = ix1 0 from funext fun a => Fin.ext (by have h : (x a).val < 1 := by { have := (x a).isLt; fin_cases a; exact this }; fin_cases a; simpa using h)]
  pointwise

/-- A block of a three-axis array, loaded and read as a matrix. -/
theorem block_apply {A B C a b : ℕ} (x : Vec Ideal ⟨3, ![A, B, C]⟩ .bf16) (off : Fin 3 → ℕ)
    (h : ∀ ax, off ax + (![1, a, b] : Fin 3 → ℕ) ax ≤ (![A, B, C] : Fin 3 → ℕ) ax)
    (hs : (⟨3, ![1, a, b]⟩ : Shape).ShapeCasts ⟨2, ![a, b]⟩) (r : Fin a) (e : Fin b) (k : (⟨3, ![A, B, C]⟩ : Shape).Idx)
    (h0 : (k 0).val = off 0) (h1 : (k 1).val = off 1 + r.val) (h2 : (k 2).val = off 2 + e.val) :
    shapeCast ⟨2, ![a, b]⟩ (View.ld x (Rect.unit (s := ⟨3, ![A, B, C]⟩) off ![1, a, b] h)) hs (ix2 r e) = x k := by
  refine (ValueIdx.shapeCast_1ab_ab_apply _ _ _ _).trans ?_
  refine View.ld_unit_apply_of _ _ _ _ _ _ fun ax => ?_
  match ax with
  | ⟨0, _⟩ => exact h0
  | ⟨1, _⟩ => exact h1
  | ⟨2, _⟩ => exact h2

theorem headAt_apply (t : Fin cfg1.N) (n : Vec Ideal S4 .i32) (q : Vec Ideal S1x512x512 .bf16) (k : Vec Ideal S1x2048x512 .bf16)
    (v : Vec Ideal S1x512x2048 .bf16) (j : Fin 8) (r : Fin 512) (d : Fin 64) :
    headAt (F := Ideal) (grid1.coords t) n q k v j (ix2 r d)
      = weigh (fun x : Fin 2048 => ∑ e : Fin 64, k (ix3 0 x ⟨64 * j.val + e.val, by omega⟩) * q (ix3 0 r ⟨64 * j.val + e.val, by omega⟩))
          (kept (n (ix1 ⟨j.val % 4, by omega⟩))) (fun x => v (ix3 0 ⟨64 * j.val + d.val, by omega⟩ x)) := by
  unfold headAt
  rw [head_apply, word_apply n _ _ ⟨j.val % 4, by omega⟩ (length_place t j)]
  have hq : ∀ e : Fin 64, _ = q (ix3 0 r ⟨64 * j.val + e.val, by omega⟩) := fun e =>
    block_apply q ![0, 0, 64 * j.val] (lanes_inb j) shapeCasts_S1x512x64_S512x64 r e _ rfl (Nat.zero_add _).symm rfl
  have hk : ∀ (x : Fin 2048) (e : Fin 64), _ = k (ix3 0 x ⟨64 * j.val + e.val, by omega⟩) := fun x e =>
    block_apply k ![0, 0, 64 * j.val] (keyLanes_inb j) shapeCasts_S1x2048x64_S2048x64 x e _ rfl (Nat.zero_add _).symm rfl
  have hv : ∀ x : Fin 2048, _ = v (ix3 0 ⟨64 * j.val + d.val, by omega⟩ x) := fun x =>
    block_apply v ![0, 64 * j.val, 0] (valueLanes_inb j) shapeCasts_S1x64x2048_S64x2048 d x _ rfl rfl (Nat.zero_add _).symm
  exact congrArg₂ (fun s w => weigh s (kept (n (ix1 ⟨j.val % 4, by omega⟩))) w)
    (funext fun x => Finset.sum_congr rfl fun e _ => congrArg₂ (· * ·) (hk x e) (hq e)) (funext hv)

section

variable (V : (c : Dev nD) → (b : Ref sig .tc) → Buf (Elt Ideal) ((c : Thread nD τ).loc b))

/-- Every head of every batch at one query and one column: column `x` belongs to head `x / 64`. -/
def attend (n : Vec Ideal S4 .i32) (q k : FVec Ideal S4x2048x1024 .bf16) (v : FVec Ideal S4x1024x2048 .bf16)
    (b : Fin 4) (r : Fin 2048) (x : Fin 1024) : EReal :=
  weigh (fun y : Fin 2048 => ∑ e : Fin 64, k (ix3 b y ⟨64 * (x.val / 64) + e.val, by omega⟩) * q (ix3 b r ⟨64 * (x.val / 64) + e.val, by omega⟩))
    (kept (n (ix1 ⟨x.val / 64 % 4, by omega⟩))) (fun y => v (ix3 b x y))

theorem unit_apply (x : FVec Ideal S512x512 .bf16) (a : Fin 1) (r : Fin 512) (d : Fin 512) :
    shapeCast S1x512x512 x shapeCasts_S512x512_S1x512x512 (ix3 a r d) = x (ix2 r d) := by
  pointwise

theorem weigh_congr {s s' : Fin 2048 → EReal} {n n' : BitVec 32} {v v' : Fin 2048 → EReal} (hs : ∀ y, s y = s' y) (hn : n = n')
    (hv : ∀ y, v y = v' y) : weigh s (kept n) v = weigh s' (kept n') v' := by
  rw [funext hs, hn, funext hv]

theorem heads (c : Dev nD) : (dat1 V c).arrAt 4 cfg1.N = fun i : S4x2048x1024.Idx =>
    attend (V c main_arg3) (V c main_v4) (V c main_v5) (V c main_v3_2) (i 0) (i 1) (i 2) := by
  refine (dat1 V c).arrAt_eq_of_covers 4 _ (by decide +kernel) fun t hf y => ?_
  blk_simp
  rw [after1_4]
  unfold outsAt1
  rw [out_heads]
  obtain ⟨a, r, x, rfl⟩ : ∃ (a : Fin 1) (r : Fin 512) (x : Fin 512), y = ix3 a r x := ⟨y 0, y 1, y 2, eq_ix3 y⟩
  obtain ⟨j, d, rfl⟩ : ∃ (j : Fin 8) (d : Fin 64), x = ⟨64 * j.val + d.val, by omega⟩ :=
    ⟨⟨x.val / 64, by omega⟩, ⟨x.val % 64, by omega⟩, Fin.ext (Nat.div_add_mod x.val 64).symm⟩
  rw [unit_apply]
  refine (beside_apply (fun j => headAt (grid1.coords t) (iblk1 V c 0 t) (iblk1 V c 1 t) (iblk1 V c 2 t) (iblk1 V c 3 t) j) r j d).trans ?_
  rw [headAt_apply]
  unfold attend
  refine weigh_congr (fun y => Finset.sum_congr rfl fun e _ => congrArg₂ (· * ·) ?_ ?_) ?_ fun y => ?_
  · blk_ext [iblk1, idx1 t]
  · blk_ext [iblk1, idx1 t]
  · blk_ext [iblk1, idx1 t]
  · blk_ext [iblk1, idx1 t]

end

end Cert.Proof.Attention

end
-- ==== Proof.Result.lean ====
/- The kernel's run over the extended reals: its result array at one element, a sum over the heads' columns of what the heads
   make of the three projected inputs. The three calls' arrays are read through the reshapes between them. -/
module

public import proofs.«01_k».proof.Proof.Projections
public import proofs.«01_k».proof.Proof.Heads
public import Idealize.ShloMosaic.Lib.Claim

@[expose] public section

set_option maxRecDepth 16384

noncomputable section

namespace Cert.Proof.Attention

open Idealize.ShloMosaic Idealize.ShloMosaic.TcCoe Idealize.SL.Sem
open Cert.KernelIdeal Cert.KernelIdeal.Gen

/-- One element of an input array times a weight matrix. -/
def project (x : FVec Ideal S4x2048x1024 .f32) (w : FVec Ideal S1024x1024 .f32) (b : Fin 4) (r : Fin 2048) (d : Fin 1024) : EReal :=
  ∑ e : Fin 1024, x (ix3 b r e) * w (ix2 e d)

/-- The rows of four batches, one after the other. -/
def row (b : Fin 4) (r : Fin 2048) : Fin 8192 := ⟨2048 * b.val + r.val, by omega⟩

theorem split_apply {α : Type} (x : S8192x1024.Idx → α) (b : Fin 4) (r : Fin 2048) (d : Fin 1024) :
    shapeCast S4x2048x1024 x shapeCasts_S8192x1024_S4x2048x1024 (ix3 b r d) = x (ix2 (row b r) d) := by
  refine shapeCast_apply x _ _ _ ?_
  rw [Shape.rowMajor_val_three, Shape.rowMajor_val_two]
  show (2048 * b.val + r.val) * 1024 + d.val = _
  simp
  omega

theorem merge_apply {α : Type} (x : S4x2048x1024.Idx → α) (b : Fin 4) (r : Fin 2048) (d : Fin 1024) :
    shapeCast S8192x1024 x shapeCasts_S4x2048x1024_S8192x1024 (ix2 (row b r) d) = x (ix3 b r d) := by
  refine shapeCast_apply x _ _ _ ?_
  rw [Shape.rowMajor_val_three, Shape.rowMajor_val_two]
  show _ = (2048 * b.val + r.val) * 1024 + d.val
  simp
  omega

theorem rowCol_congr {e₁ e₂ : FTy} (x : FVec Ideal S8192x1024 e₁) (w : FVec Ideal S1024x1024 e₂) (r : Fin 8192) (d : Fin 1024) (f : Fin 1024 → EReal)
    (h : ∀ e, x (ix2 r e) = f e) : rowCol (R := 8192) (e₁ := e₁) (e₂ := e₂) x w r d = ∑ e : Fin 1024, f e * w (ix2 e d) :=
  Finset.sum_congr rfl fun e _ => congrArg (· * w (ix2 e d)) (h e)

/-- The rows of a reshaped input times the weights. -/
theorem rowCol_merge (x : FVec Ideal S4x2048x1024 .f32) (w : FVec Ideal S1024x1024 .f32) (b : Fin 4) (r : Fin 2048) (d : Fin 1024) :
    rowCol (R := 8192) (e₁ := .f32) (e₂ := .f32) (shapeCast S8192x1024 x shapeCasts_S4x2048x1024_S8192x1024) w (row b r) d = project x w b r d :=
  rowCol_congr (e₁ := .f32) (e₂ := .f32) _ w _ d _ fun e => merge_apply x b r e

variable (m : (ℓ : Loc nD τ sig) → Buf (Elt Ideal) ℓ) (ρ : Dev nD → PrngReg)

theorem entry_v0 (c : Dev nD) : V1 m ρ c main_v0 = shapeCast S8192x1024 (m ((c : Thread nD τ).loc main_arg0)) shapeCasts_S4x2048x1024_S8192x1024 := by
  unfold_abbrev_sides
  after_results
  rfl

theorem entry_v1 (c : Dev nD) : V1 m ρ c main_v1 = shapeCast S8192x1024 (m ((c : Thread nD τ).loc main_arg1)) shapeCasts_S4x2048x1024_S8192x1024 := by
  unfold_abbrev_sides
  after_results
  rfl

theorem entry_v2 (c : Dev nD) : V1 m ρ c main_v2 = shapeCast S8192x1024 (m ((c : Thread nD τ).loc main_arg2)) shapeCasts_S4x2048x1024_S8192x1024 := by
  unfold_abbrev_sides
  after_results
  rfl

theorem entry_v4 (c : Dev nD) : V3 m ρ c main_v4 = shapeCast S4x2048x1024 (V2 m ρ c main_v3_0) shapeCasts_S8192x1024_S4x2048x1024 := by
  unfold_abbrev_sides
  after_results
  rfl

theorem entry_v5 (c : Dev nD) : V3 m ρ c main_v5 = shapeCast S4x2048x1024 (V2 m ρ c main_v3_1) shapeCasts_S8192x1024_S4x2048x1024 := by
  unfold_abbrev_sides
  after_results
  rfl

theorem entry_v7 (c : Dev nD) : V5 m ρ c main_v7 = shapeCast S8192x1024 (V4 m ρ c main_v6) shapeCasts_S4x2048x1024_S8192x1024 := by
  unfold_abbrev_sides
  after_results
  rfl

theorem entry_v9 (c : Dev nD) : W7 m ρ c (Proc.devRef .tc main_v9) = shapeCast S4x2048x1024 (V6 m ρ c main_v8) shapeCasts_S8192x1024_S4x2048x1024 := by
  unfold_abbrev_sides
  after_results
  rfl

/-- The three projections as the heads read them, and the heads' output as the last call reads it. -/
theorem queries_apply (c : Dev nD) (b : Fin 4) (r : Fin 2048) (d : Fin 1024) :
    (V3 m ρ c main_v4 : FVec Ideal S4x2048x1024 .bf16) (ix3 b r d)
      = project (m ((c : Thread nD τ).loc main_arg0)) (m ((c : Thread nD τ).loc main_arg4)) b r d * factor := by
  rw [entry_v4, show V2 m ρ c main_v3_0 = _ from (W2_arr m ρ c 6).trans (queries (V1 m ρ) c), entry_v0,
    show V1 m ρ c main_arg4 = _ from W1_args m ρ c main_arg4 (by decide)]
  exact (split_apply _ b r d).trans (congrArg (· * factor) (rowCol_merge _ _ b r d))

theorem keys_apply (c : Dev nD) (b : Fin 4) (r : Fin 2048) (d : Fin 1024) :
    (V3 m ρ c main_v5 : FVec Ideal S4x2048x1024 .bf16) (ix3 b r d)
      = project (m ((c : Thread nD τ).loc main_arg1)) (m ((c : Thread nD τ).loc main_arg5)) b r d := by
  rw [entry_v5, show V2 m ρ c main_v3_1 = _ from (W2_arr m ρ c 7).trans (keys (V1 m ρ) c), entry_v1,
    show V1 m ρ c main_arg5 = _ from W1_args m ρ c main_arg5 (by decide)]
  exact (split_apply _ b r d).trans (rowCol_merge _ _ b r d)

theorem values_apply (c : Dev nD) (b : Fin 4) (d : Fin 1024) (r : Fin 2048) :
    (V3 m ρ c main_v3_2 : FVec Ideal S4x1024x2048 .bf16) (ix3 b d r)
      = project (m ((c : Thread nD τ).loc main_arg2)) (m ((c : Thread nD τ).loc main_arg6)) b r d := by
  rw [show V3 m ρ c main_v3_2 = V2 m ρ c main_v3_2 from W3_of m ρ c main_v3_2 (by decide),
    show V2 m ρ c main_v3_2 = _ from (W2_arr m ρ c 8).trans (values (V1 m ρ) c), entry_v2,
    show V1 m ρ c main_arg6 = _ from W1_args m ρ c main_arg6 (by decide)]
  exact rowCol_merge _ _ b r d

/-- What a head makes of the three projections, at one query and one of its columns. -/
def headOf (c : Dev nD) (b : Fin 4) (r : Fin 2048) (x : Fin 1024) : EReal :=
  weigh (fun y : Fin 2048 => ∑ e : Fin 64,
      project (m ((c : Thread nD τ).loc main_arg1)) (m ((c : Thread nD τ).loc main_arg5)) b y ⟨64 * (x.val / 64) + e.val, by omega⟩
        * (project (m ((c : Thread nD τ).loc main_arg0)) (m ((c : Thread nD τ).loc main_arg4)) b r ⟨64 * (x.val / 64) + e.val, by omega⟩ * factor))
    (kept ((m ((c : Thread nD τ).loc main_arg3) : IVec S4 32) (ix1 ⟨x.val / 64 % 4, by omega⟩)))
    (fun y => project (m ((c : Thread nD τ).loc main_arg2)) (m ((c : Thread nD τ).loc main_arg6)) b y x)

theorem heads_apply (c : Dev nD) (b : Fin 4) (r : Fin 2048) (x : Fin 1024) :
    (V4 m ρ c main_v6 : FVec Ideal S4x2048x1024 .bf16) (ix3 b r x) = headOf m c b r x := by
  rw [show V4 m ρ c main_v6 = _ from (W4_arr m ρ c 4).trans (heads (V3 m ρ) c),
    show V3 m ρ c main_arg3 = _ from W3_args m ρ c main_arg3 (by decide)]
  show attend _ _ _ _ b r x = _
  unfold attend headOf
  exact weigh_congr (fun y => Finset.sum_congr rfl fun e _ => congrArg₂ (· * ·) (keys_apply m ρ c b y _) (queries_apply m ρ c b r _)) rfl
    fun y => values_apply m ρ c b x y

/-- THE RESULT at one element. -/
theorem result_apply (c : Dev nD) (b : Fin 4) (r : Fin 2048) (d : Fin 1024) :
    (W7 m ρ c (Proc.devRef .tc main_v9) : FVec Ideal S4x2048x1024 .f32) (ix3 b r d)
      = ∑ x : Fin 1024, headOf m c b r x * (m ((c : Thread nD τ).loc main_arg7) : FVec Ideal S1024x1024 .f32) (ix2 x d) := by
  rw [entry_v9, show V6 m ρ c main_v8 = _ from (W6_arr m ρ c 2).trans (outputs (V5 m ρ) c), entry_v7,
    show V5 m ρ c main_arg7 = _ from W5_args m ρ c main_arg7 (by decide)]
  exact (split_apply _ b r d).trans (rowCol_congr (e₁ := .bf16) (e₂ := .f32) _ _ _ d _ fun x => (merge_apply _ b r x).trans (heads_apply m ρ c b r x))

open Idealize.SL Idealize.SL.RA Idealize.SL.BI
open scoped Idealize.SL.BI
open Idealize.SL.BI.BIBase Idealize.SL.BI.Laws Idealize.SL.ProofMode Idealize.ShloMosaic.Tactic Idealize.ShloMosaic.Rounds

local notation "𝕄" => MT nD τ sig Unit (Elt Ideal) ℕ (UR sig nD τ) ℕ

set_option backward.isDefEq.respectTransparency.types false in
/-- The kernel's run: the result array at what the last reshape leaves, the arguments as launched. -/
theorem run_ideal : θ_run defs (onTc (τ := τ) (main (F := Ideal))) ⟨m, fun _ => 0, ρ⟩ (fun r => ∀ c : Dev nD,
      r.2.mem ((c.tc : Thread nD τ).loc main_v9) = W7 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v9 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.Proof.Attention

end
-- ==== Proof.Algebraic.lean ====
/- The value claim: the kernel's result and the reference's are one array of extended reals. Scores are real under the
   precondition, the kernel's being the reference's with the factor and the base of the exponential moved; key zero is
   always kept; so each column of each head is one number, and the last product sums the same terms. -/
module

public import proofs.«01_k».proof.Defs
public import proofs.«01_k».proof.Proof.Precondition
public import proofs.«01_k».proof.Proof.Reference
public import proofs.«01_k».proof.Proof.Result

@[expose] public section

set_option maxRecDepth 16384

noncomputable section

namespace Cert.Proof.Attention

open Idealize.ShloMosaic Idealize.ShloMosaic.TcCoe Idealize.SL.Sem
open Cert.KernelIdeal Cert.KernelIdeal.Gen

/-- A sum of products of reals is real. -/
theorem project_real (x : FVec Ideal S4x2048x1024 .f32) (w : FVec Ideal S1024x1024 .f32) (hx : ∀ i, ∃ a : ℝ, x i = a) (hw : ∀ i, ∃ a : ℝ, w i = a) :
    ∃ p : Fin 4 → Fin 2048 → Fin 1024 → ℝ, ∀ b r d, project x w b r d = p b r d := by
  choose f hf using hx
  choose g hg using hw
  refine ⟨fun b r d => ∑ e : Fin 1024, f (ix3 b r e) * g (ix2 e d), fun b r d => ?_⟩
  rw [coe_sum]
  exact Finset.sum_congr rfl fun e _ => by rw [hf, hg, EReal.coe_mul]

/-- The kernel's score is the reference's product over the head's columns, times the factor. -/
theorem score_kernel (q k : Fin 64 → ℝ) :
    ∑ e : Fin 64, (k e : EReal) * ((q e : EReal) * factor) = (((∑ e : Fin 64, q e * k e) * (1 / 8 * (Real.log 2)⁻¹) : ℝ) : EReal) := by
  rw [Finset.sum_mul, coe_sum]
  refine Finset.sum_congr rfl fun e _ => ?_
  rw [factor, ← EReal.coe_mul, ← EReal.coe_mul]
  exact congrArg _ (by ring)

theorem score_reference (q k : Fin 64 → ℝ) :
    Ideal.div (∑ e : Fin 64, (q e : EReal) * (k e : EReal)) ((8 : ℝ) : EReal) = (((∑ e : Fin 64, q e * k e) / 8 : ℝ) : EReal) := by
  rw [Ideal.div_coe (by norm_num), show (∑ e : Fin 64, (q e : EReal) * (k e : EReal)) = ((∑ e : Fin 64, q e * k e : ℝ) : EReal) by simp only [coe_sum, EReal.coe_mul], ← EReal.coe_mul]
  exact congrArg _ (by ring)

/-- One column of the heads: the kernel's is the reference's. -/
theorem head_eq (query key value : FVec Ideal S4x2048x1024 .f32) (n : IVec S4 32) (wq wk wv : FVec Ideal S1024x1024 .f32)
    (hq : ∀ i, ∃ a : ℝ, query i = a) (hk : ∀ i, ∃ a : ℝ, key i = a) (hwq : ∀ i, ∃ a : ℝ, wq i = a) (hwk : ∀ i, ∃ a : ℝ, wk i = a)
    (hn : ∀ i, 1 ≤ (n i).toInt) (b : Fin 4) (r : Fin 2048) (x : Fin 1024) :
    weigh (fun y : Fin 2048 => ∑ e : Fin 64, project key wk b y ⟨64 * (x.val / 64) + e.val, by omega⟩
        * (project query wq b r ⟨64 * (x.val / 64) + e.val, by omega⟩ * factor)) (kept (n (ix1 ⟨x.val / 64 % 4, by omega⟩))) (fun y => project value wv b y x)
      = Reference.headAt query key value n wq wk wv b r x := by
  obtain ⟨p, hp⟩ := project_real query wq hq hwq
  obtain ⟨k, hk⟩ := project_real key wk hk hwk
  have hp' (b r d) : Reference.times query wq b r d = p b r d := hp b r d
  have hk' (b r d) : Reference.times key wk b r d = k b r d := hk b r d
  unfold Reference.headAt
  simp only [hp, hk, hp', hk', score_kernel, score_reference]
  exact weigh_eq_average _ (fun y : Fin 2048 => (n (ix1 ⟨x.val / 64 % 4, by omega⟩)).toInt ≤ y.val)
    ⟨0, by have := hn (ix1 ⟨x.val / 64 % 4, by omega⟩); show ¬ _ ≤ ((0 : ℕ) : ℤ); omega⟩ _

/-- Equal columns give equal products with the last weights. -/
theorem last_congr (f g : Fin 1024 → EReal) (w : FVec Ideal S1024x1024 .f32) (d : Fin 1024) (h : ∀ x, f x = g x) :
    ∑ x : Fin 1024, f x * w (ix2 x d) = ∑ x : Fin 1024, g x * w (ix2 x d) :=
  Finset.sum_congr rfl fun x _ => congrArg (· * w (ix2 x d)) (h x)

/-- The two results are one array, on arguments that agree and lie in range. -/
theorem results_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (hpre : Cert.Pre_KernelIdeal_in_range m) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    Cert.ReferenceIdeal.Value.res_main_v41 m' c = W7 m ρ c (Proc.devRef .tc main_v9) := by
  obtain ⟨hq, hk, hwq, hwk, hn⟩ := in_range_reads _ _ _ _ _ _ _ _ (hpre c)
  refine funext fun (i : S4x2048x1024.Idx) => ?_
  obtain ⟨b, r, d, rfl⟩ : ∃ (b : Fin 4) (r : Fin 2048) (d : Fin 1024), i = ix3 b r d := ⟨i 0, i 1, i 2, eq_ix3 i⟩
  refine (Reference.result_apply m' c b r d).trans ((result_apply m ρ c b r d).trans ?_).symm
  rw [h0, h1, h2, h3, h4, h5, h6, h7]
  exact last_congr _ _ (m ((c : Thread nD τ).loc main_arg7)) d fun x =>
    (head_eq (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) hq hk hwq hwk hn b r x)

theorem algebraic : Cert.algebraic_KernelIdeal_ReferenceIdeal_pre_in_range := fun m g m' g' hpre hargs =>
  ⟨fun c => W7 m g c (Proc.devRef .tc main_v9), run_ideal m g,
    (θ_run Cert.ReferenceIdeal.defs _ _).mono
      (fun r h c => by
        obtain ⟨h0, h1, h2, h3, h4, h5, h6, h7⟩ := hargs c
        exact ⟨(h c).1.trans (results_eq m g m' hpre c h0 h1 h2 h3 h4 h5 h6 h7), (h c).2⟩)
      (Cert.ReferenceIdeal.Value.run (F := Ideal) m' g')⟩

end Cert.Proof.Attention

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Attention.range_facts,
    Attention.frame_kernel, Attention.frame_ideal, Attention.frame_ideal_pre, Attention.frame_reference, Attention.frame_reference_pre,
    Attention.preserves, Attention.algebraic⟩

end Cert.Proof

end
